-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x18944 : Shape := ⟨3, ![6, 1024, 18944]⟩
abbrev S135790592 : Shape := ⟨1, ![135790592]⟩
abbrev S66304 : Shape := ⟨1, ![66304]⟩
abbrev S6144x18944 : Shape := ⟨2, ![6144, 18944]⟩
abbrev S2x18944x3584 : Shape := ⟨3, ![2, 18944, 3584]⟩
abbrev S66304x4 : Shape := ⟨2, ![66304, 4]⟩
abbrev S265216 : Shape := ⟨1, ![265216]⟩
abbrev S2x18944x7 : Shape := ⟨3, ![2, 18944, 7]⟩
abbrev S2x37x64x8x7 : Shape := ⟨5, ![2, 37, 64, 8, 7]⟩
abbrev S2x7x37x8x64 : Shape := ⟨5, ![2, 7, 37, 8, 64]⟩
abbrev S6144x3584 : Shape := ⟨2, ![6144, 3584]⟩
abbrev S2048x512 : Shape := ⟨2, ![2048, 512]⟩
abbrev S1x512x512 : Shape := ⟨3, ![1, 512, 512]⟩
abbrev S1x1x1x8x64 : Shape := ⟨5, ![1, 1, 1, 8, 64]⟩
abbrev S8x64 : Shape := ⟨2, ![8, 64]⟩
abbrev S8x1 : Shape := ⟨2, ![8, 1]⟩
abbrev S8x512 : Shape := ⟨2, ![8, 512]⟩
abbrev S512x512 : Shape := ⟨2, ![512, 512]⟩
abbrev S6x1024x3584 : Shape := ⟨3, ![6, 1024, 3584]⟩

abbrev nBuf : Space → Nat
  | .hbm => 14
  | .vmem => 14
  | .smem => 0
  | _ => 0

abbrev bufTy : (tb : Table) → Fin (tcTables nBuf tb) → BufTy
  | .hbm, ⟨0, _⟩ => ⟨S6x1024x18944, .bf16⟩
  | .hbm, ⟨1, _⟩ => ⟨S135790592, .i8⟩
  | .hbm, ⟨2, _⟩ => ⟨S66304, .f32⟩
  | .hbm, ⟨3, _⟩ => ⟨S6144x18944, .bf16⟩
  | .hbm, ⟨4, _⟩ => ⟨S2x18944x3584, .i8⟩
  | .hbm, ⟨5, _⟩ => ⟨S66304, .bf16⟩
  | .hbm, ⟨6, _⟩ => ⟨S66304, .f32⟩
  | .hbm, ⟨7, _⟩ => ⟨S66304x4, .f32⟩
  | .hbm, ⟨8, _⟩ => ⟨S265216, .f32⟩
  | .hbm, ⟨9, _⟩ => ⟨S2x18944x7, .f32⟩
  | .hbm, ⟨10, _⟩ => ⟨S2x37x64x8x7, .f32⟩
  | .hbm, ⟨11, _⟩ => ⟨S2x7x37x8x64, .f32⟩
  | .hbm, ⟨12, _⟩ => ⟨S6144x3584, .bf16⟩
  | .hbm, ⟨13, _⟩ => ⟨S6x1024x3584, .bf16⟩
  | .local _ .vmem, ⟨0, _⟩ => ⟨S2048x512, .bf16⟩
  | .local _ .vmem, ⟨1, _⟩ => ⟨S2048x512, .bf16⟩
  | .local _ .vmem, ⟨2, _⟩ => ⟨S1x512x512, .i8⟩
  | .local _ .vmem, ⟨3, _⟩ => ⟨S1x512x512, .i8⟩
  | .local _ .vmem, ⟨4, _⟩ => ⟨S1x512x512, .i8⟩
  | .local _ .vmem, ⟨5, _⟩ => ⟨S1x512x512, .i8⟩
  | .local _ .vmem, ⟨6, _⟩ => ⟨S1x1x1x8x64, .f32⟩
  | .local _ .vmem, ⟨7, _⟩ => ⟨S1x1x1x8x64, .f32⟩
  | .local _ .vmem, ⟨8, _⟩ => ⟨S1x1x1x8x64, .f32⟩
  | .local _ .vmem, ⟨9, _⟩ => ⟨S1x1x1x8x64, .f32⟩
  | .local _ .vmem, ⟨10, _⟩ => ⟨S2048x512, .bf16⟩
  | .local _ .vmem, ⟨11, _⟩ => ⟨S2048x512, .bf16⟩
  | .local _ .vmem, ⟨12, _⟩ => ⟨S2048x512, .f32⟩
  | .local _ .vmem, ⟨13, _⟩ => ⟨S2048x512, .f32⟩
  | _, _ => ⟨S6x1024x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![3, 7, 37], ![false, false, false]⟩

def k0_cond2 (i : grid0.Coords) : BitVec 1 :=
  let arg2 : BitVec 32 := BitVec.ofNat 32 (i 2).val
  let c36_i32 : BitVec 32 := 36#32
  let v417 : BitVec 1 := Scalar.cmpi .eq arg2 c36_i32
  let v418 : BitVec 32 := Scalar.extui v417
  let c0_i32_27 : BitVec 32 := 0#32
  let v419 : BitVec 1 := Scalar.cmpi .ne v418 c0_i32_27
  v419

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, arg2.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg1.toNat, arg2.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1x1x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S6x1024x18944 : Shape := ⟨3, ![6, 1024, 18944]⟩
abbrev S135790592 : Shape := ⟨1, ![135790592]⟩
abbrev S66304 : Shape := ⟨1, ![66304]⟩
abbrev S66304x2048 : Shape := ⟨2, ![66304, 2048]⟩
abbrev S66304x1 : Shape := ⟨2, ![66304, 1]⟩
abbrev S2x18944x3584 : Shape := ⟨3, ![2, 18944, 3584]⟩
abbrev S2x3584x6x1024 : Shape := ⟨4, ![2, 3584, 6, 1024]⟩
abbrev S2x6x1024x3584 : Shape := ⟨4, ![2, 6, 1024, 3584]⟩
abbrev S1x6x1024x3584 : Shape := ⟨4, ![1, 6, 1024, 3584]⟩
abbrev S6x1024x3584 : Shape := ⟨3, ![6, 1024, 3584]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S6x1024x18944, .bf16⟩
  | .hbm, ⟨1, _⟩ => ⟨S135790592, .i8⟩
  | .hbm, ⟨2, _⟩ => ⟨S66304, .f32⟩
  | .hbm, ⟨3, _⟩ => ⟨S66304x2048, .i8⟩
  | .hbm, ⟨4, _⟩ => ⟨S66304x2048, .i32⟩
  | .hbm, ⟨5, _⟩ => ⟨S66304x2048, .bf16⟩
  | .hbm, ⟨6, _⟩ => ⟨S66304, .bf16⟩
  | .hbm, ⟨7, _⟩ => ⟨S66304x1, .bf16⟩
  | .hbm, ⟨8, _⟩ => ⟨S66304x2048, .bf16⟩
  | .hbm, ⟨9, _⟩ => ⟨S66304x2048, .bf16⟩
  | .hbm, ⟨10, _⟩ => ⟨S2x18944x3584, .bf16⟩
  | .hbm, ⟨11, _⟩ => ⟨S2x3584x6x1024, .f32⟩
  | .hbm, ⟨12, _⟩ => ⟨S2x6x1024x3584, .f32⟩
  | .hbm, ⟨13, _⟩ => ⟨S1x6x1024x3584, .f32⟩
  | .hbm, ⟨14, _⟩ => ⟨S6x1024x3584, .f32⟩
  | .hbm, ⟨15, _⟩ => ⟨S6x1024x3584, .f32⟩
  | .hbm, ⟨16, _⟩ => ⟨S6x1024x3584, .f32⟩
  | .hbm, ⟨17, _⟩ => ⟨S_, .f32⟩
  | .hbm, ⟨18, _⟩ => ⟨S6x1024x3584, .f32⟩
  | .hbm, ⟨19, _⟩ => ⟨S6x1024x3584, .f32⟩
  | .hbm, ⟨20, _⟩ => ⟨S_, .f32⟩
  | .hbm, ⟨21, _⟩ => ⟨S6x1024x3584, .f32⟩
  | .hbm, ⟨22, _⟩ => ⟨S6x1024x3584, .f32⟩
  | .hbm, ⟨23, _⟩ => ⟨S6x1024x3584, .f32⟩
  | .hbm, ⟨24, _⟩ => ⟨S1x6x1024x3584, .f32⟩
  | .hbm, ⟨25, _⟩ => ⟨S6x1024x3584, .f32⟩
  | .hbm, ⟨26, _⟩ => ⟨S6x1024x3584, .f32⟩
  | .hbm, ⟨27, _⟩ => ⟨S6x1024x3584, .bf16⟩
  | _, _ => ⟨S6x1024x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Proof.Spec.lean ====
/- The mathematics of the problem over the extended reals, as functions of the three arguments: the weights are codes times
   scales, one scale for each 2048 consecutive weights; two projections of `x`; and the gated product of the two. -/
module

public import Idealize.ShloMosaic.Lib.ValueIdx
public import Idealize.ShloMosaic.Lib.IdealHost

@[expose] public section

noncomputable section

open Idealize.ShloMosaic Idealize.ShloMosaic.ValueIdx
open scoped BigOperators

namespace Cert.Gated

/-- `x`: 6 batches of 1024 rows of 18944 numbers. -/
abbrev X := FVec Ideal (⟨3, ![6, 1024, 18944]⟩ : Shape) .bf16
/-- The codes of the two weight matrices, flat. -/
abbrev Codes := IVec (⟨1, ![135790592]⟩ : Shape) 8
/-- The scales, one for each 2048 codes. -/
abbrev Scales := FVec Ideal (⟨1, ![66304]⟩ : Shape) .f32

variable (x : X) (w : Codes) (s : Scales)

/-- Element `(k, n)` of weight matrix `g`: the code at its flat position times the scale of that position's block. -/
def weight (g : Fin 2) (k : Fin 18944) (n : Fin 3584) : EReal :=
  FloatOps.sitofp (F := Ideal) .f32 (w (ix1 (⟨g.val * 67895296 + k.val * 3584 + n.val, by omega⟩ : Fin 135790592)))
    * s (ix1 (⟨(g.val * 67895296 + k.val * 3584 + n.val) / 2048, by omega⟩ : Fin 66304))

/-- Row `r` of `x`, the 6 batches of 1024 rows counted through. -/
def row (r : Fin 6144) (k : Fin 18944) : EReal :=
  x (ix3 (⟨r.val / 1024, by omega⟩ : Fin 6) (⟨r.val % 1024, by omega⟩ : Fin 1024) k)

/-- The product at position `k` of the contracted axis, for row `r` and column `n` (zero past the end of the axis). -/
def term (g : Fin 2) (r : Fin 6144) (n : Fin 3584) (k : ℕ) : EReal :=
  if h : k < 18944 then row x r ⟨k, h⟩ * weight w s g ⟨k, h⟩ n else 0

/-- The projection of row `r` on column `n` of weight matrix `g`. -/
def proj (g : Fin 2) (r : Fin 6144) (n : Fin 3584) : EReal := ∑ k : Fin 18944, row x r k * weight w s g k n

/-- The result at row `r`, column `n`: the first projection times its logistic times the second projection. -/
def result (r : Fin 6144) (n : Fin 3584) : EReal :=
  proj x w s 0 r n * Ideal.logistic (proj x w s 0 r n) * proj x w s 1 r n

/-- The products summed along the whole axis are the projection. -/
theorem sum_term (g : Fin 2) (r : Fin 6144) (n : Fin 3584) :
    ∑ k ∈ Finset.range 18944, term x w s g r n k = proj x w s g r n := by
  unfold proj
  rw [Finset.sum_range]
  exact Finset.sum_congr rfl fun k _ => dif_pos k.isLt

end Cert.Gated

end
-- ==== Proof.Host.lean ====
/- What the kernel's launch finds in its arrays: the host lines before it reshape `x` and the codes, and lay the scales out
   by column block, by block of the contracted axis and by row. Each array is read here at an index, in terms of the arguments. -/
module

public import proofs.«01_k».proof.Proof.Spec
public import proofs.«01_k».proof.Proof.Gen.KernelIdeal.Frame
public import Idealize.ShloMosaic.Lib.Pipeline.Value
public import Idealize.ShloMosaic.Lib.Tactic
public import Idealize.ShloMosaic.Lib.Claim

@[expose] public section

noncomputable section

open Idealize.ShloMosaic Idealize.ShloMosaic.TcCoe Idealize.SL.Sem Idealize.ShloMosaic.ValueIdx

namespace Cert.KernelIdeal.Hand

open Cert.KernelIdeal Cert.KernelIdeal.Gen

variable (m : (ℓ : Loc nD τ sig) → Buf (Elt Ideal) ℓ)

/-- The argument `x` as launched. -/
abbrev argX (c : Dev nD) : Gated.X := m ((c : Thread nD τ).loc main_arg0)
/-- The codes as launched. -/
abbrev argW (c : Dev nD) : Gated.Codes := m ((c : Thread nD τ).loc main_arg1)
/-- The scales as launched. -/
abbrev argS (c : Dev nD) : Gated.Scales := m ((c : Thread nD τ).loc main_arg2)

/-- The first array is `x` with its batches and rows merged. -/
theorem entry_x (c : Dev nD) : V m c main_v0 = shapeCast S6144x18944 (argX m c) shapeCasts_S6x1024x18944_S6144x18944 := by
  entry_read
  rfl

/-- The second array is the codes as two matrices. -/
theorem entry_w (c : Dev nD) : V m c main_v1 = shapeCast S2x18944x3584 (argW m c) shapeCasts_S135790592_S2x18944x3584 := by
  entry_read
  rfl

/-- The third array is the scales, each repeated four times, as two matrices of 18944 rows of 7, laid out anew. -/
theorem entry_s (c : Dev nD) : V m c main_v8 =
    transpose S2x7x37x8x64 [0, 4, 1, 3, 2]
      (shapeCast S2x37x64x8x7 (shapeCast S2x18944x7 (shapeCast S265216
        (broadcastInDim S66304x4 ![0] bcast_S66304_S66304x4_0
          (extf .f32 (truncf .bf16 (argS m c) bitsLt_bf16_f32) bitsLt_bf16_f32 : FVec Ideal S66304 .f32))
        shapeCasts_S66304x4_S265216) shapeCasts_S265216_S2x18944x7) shapeCasts_S2x18944x7_S2x37x64x8x7)
      transposes_S2x37x64x8x7_S2x7x37x8x64_0_4_1_3_2 := by
  entry_read
  rfl

/-- The first array at row `r`, column `k`. -/
theorem entry_x_apply (c : Dev nD) (r : Fin 6144) (k : Fin 18944) : V m c main_v0 (ix2 r k) = Gated.row (argX m c) r k := by
  rw [entry_x]
  refine shapeCast_apply _ _ _ _ ?_
  rw [Shape.rowMajor_val_three, Shape.rowMajor_val_two]
  show (r.val / 1024 * 1024 + r.val % 1024) * 18944 + k.val = r.val * 18944 + k.val
  omega

/-- The second array at matrix `g`, row `k`, column `n`. -/
theorem entry_w_apply (c : Dev nD) (g : Fin 2) (k : Fin 18944) (n : Fin 3584) :
    V m c main_v1 (ix3 g k n) = argW m c (ix1 (⟨g.val * 67895296 + k.val * 3584 + n.val, by omega⟩ : Fin 135790592)) := by
  rw [entry_w]
  refine shapeCast_apply _ _ _ _ ?_
  rw [Shape.rowMajor_val_one, Shape.rowMajor_val_three]
  show g.val * 67895296 + k.val * 3584 + n.val = (g.val * 18944 + k.val) * 3584 + n.val
  omega

/-- The third array at matrix `g`, column block `j`, block `q` of the contracted axis, row `8b + a` of that block. -/
theorem entry_s_apply (c : Dev nD) (g : Fin 2) (j : Fin 7) (q : Fin 37) (a : Fin 8) (b : Fin 64) :
    V m c main_v8 (ix5 g j q a b)
      = argS m c (ix1 (⟨(g.val * 132608 + (q.val * 512 + b.val * 8 + a.val) * 7 + j.val) / 4, by omega⟩ : Fin 66304)) := by
  rw [entry_s, transpose_apply _ _ _ _ (ix5 g q b a j : (⟨5, ![2, 37, 64, 8, 7]⟩ : Shape).Idx) (fun d => by fin_cases d <;> rfl),
    shapeCast_apply _ _ _ (ix3 g (⟨q.val * 512 + b.val * 8 + a.val, by omega⟩ : Fin 18944) j : (⟨3, ![2, 18944, 7]⟩ : Shape).Idx) (by
      rw [Shape.rowMajor_val_three, Shape.rowMajor_val_five]
      show (g.val * 18944 + (q.val * 512 + b.val * 8 + a.val)) * 7 + j.val = (((g.val * 37 + q.val) * 64 + b.val) * 8 + a.val) * 7 + j.val
      omega),
    shapeCast_apply _ _ _ (ix1 (⟨g.val * 132608 + (q.val * 512 + b.val * 8 + a.val) * 7 + j.val, by omega⟩ : Fin 265216) : (⟨1, ![265216]⟩ : Shape).Idx) (by
      rw [Shape.rowMajor_val_three, Shape.rowMajor_val_one]
      show g.val * 132608 + (q.val * 512 + b.val * 8 + a.val) * 7 + j.val = (g.val * 18944 + (q.val * 512 + b.val * 8 + a.val)) * 7 + j.val
      omega),
    shapeCast_apply _ _ _ (ix2 (⟨(g.val * 132608 + (q.val * 512 + b.val * 8 + a.val) * 7 + j.val) / 4, by omega⟩ : Fin 66304)
        (⟨(g.val * 132608 + (q.val * 512 + b.val * 8 + a.val) * 7 + j.val) % 4, by omega⟩ : Fin 4) : (⟨2, ![66304, 4]⟩ : Shape).Idx) (by
      rw [Shape.rowMajor_val_two, Shape.rowMajor_val_one]
      show (g.val * 132608 + (q.val * 512 + b.val * 8 + a.val) * 7 + j.val) / 4 * 4
        + (g.val * 132608 + (q.val * 512 + b.val * 8 + a.val) * 7 + j.val) % 4 = g.val * 132608 + (q.val * 512 + b.val * 8 + a.val) * 7 + j.val
      omega),
    broadcastInDim_apply _ _ _ _ (ix1 (⟨(g.val * 132608 + (q.val * 512 + b.val * 8 + a.val) * 7 + j.val) / 4, by omega⟩ : Fin 66304) : (⟨1, ![66304]⟩ : Shape).Idx)
      (fun d => by fin_cases d; rfl)]
  rfl

end Cert.KernelIdeal.Hand

end
-- ==== Proof.Body.lean ====
/- What the kernel's body leaves in its two accumulators and in its output block, as plain terms of the blocks it reads.
   The generated frame states them as lists of stores; here each list is read back as one vector. -/
module

public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Hand

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- Every column of the `8 x 64` block of scales is inside it. -/
theorem columns (n : Fin 64) : S8x64.Slices ![0, n.val] S8x1 := by
  revert n; decide

/-- Column `n` of an `8 x 64` block of scales, copied across 512 columns: the scales of rows `8n … 8n+7` of the weights. -/
def piece (s : FVec F S8x64 .f32) (n : Fin 64) : FVec F S8x512 .f32 :=
  broadcastTo S8x512 (shapeCast S8x1 (extractStridedSlice S8x1 ![0, n.val] s (columns n)) shapeCasts_S8x1_S8x1) broadcasts_S8x1_S8x512

/-- 64 pieces of 8 rows stack to 512 rows. -/
theorem pieces_fit (s : FVec F S8x64 .f32) :
    Shape.Concatenates ((List.ofFn fun n : Fin 64 => (⟨S8x512, piece s n⟩ : (s : Shape) × FVec F s .f32)).map (·.1)) S512x512 0 :=
  concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S512x512_d0

/-- The `512 x 512` block of scales: the 64 pieces stacked. -/
def scaleTile (s : Vec F S1x1x1x8x64 .f32) : FVec F S512x512 .f32 :=
  concatenate S512x512 0
    (List.ofFn fun n : Fin 64 => (⟨S8x512, piece (shapeCast S8x64 s shapeCasts_S1x1x1x8x64_S8x64) n⟩ : (s : Shape) × FVec F s .f32))
    (pieces_fit _)

/-- A `512 x 512` block of weights: codes times scales, rounded to bf16. -/
def weightTile (w : Vec F S1x512x512 .i8) (s : Vec F S1x1x1x8x64 .f32) : FVec F S512x512 .bf16 :=
  truncf .bf16 (mulf (sitofp .f32 (shapeCast S512x512 w shapeCasts_S1x512x512_S512x512)) (scaleTile s)) bitsLt_bf16_f32

/-- One step of an accumulator: add the product of the block of `x` and the block of weights. -/
def step (acc : Vec F S2048x512 .f32) (x : Vec F S2048x512 .bf16) (w : Vec F S1x512x512 .i8) (s : Vec F S1x1x1x8x64 .f32) :
    FVec F S2048x512 .f32 :=
  shapeCast S2048x512 (addf acc (matmul dot_S2048x512_S512x512_S2048x512_1_0_0_1_n_n none
    (shapeCast S2048x512 x shapeCasts_S2048x512_S2048x512) (weightTile w s) (constant S2048x512 .f32 0x00000000#32)))
    shapeCasts_S2048x512_S2048x512

/-- The zero block the first step starts from. -/
def zeroTile : FVec F S2048x512 .f32 :=
  shapeCast S2048x512 (broadcast S2048x512 (Scalar.ofBits .f32 0x00000000#32)) shapeCasts_S2048x512_S2048x512

/-- At the first step of a tile (`k = 0`) the first accumulator holds one step from zero. -/
theorem sout_A_0 (c : Dev nD) (i : grid0.Coords) (a3 : Memref sig .tc .vmem S2048x512 .bf16) (h3 : a3.IsWhole) (a4 : Memref sig .tc .vmem S1x512x512 .i8) (h4 : a4.IsWhole) (a5 : Memref sig .tc .vmem S1x512x512 .i8) (h5 : a5.IsWhole) (a6 : Memref sig .tc .vmem S1x1x1x8x64 .f32) (h6 : a6.IsWhole) (a7 : Memref sig .tc .vmem S1x1x1x8x64 .f32) (h7 : a7.IsWhole) (a8 : Memref sig .tc .vmem S2048x512 .bf16) (h8 : a8.IsWhole) (a9 : Memref sig .tc .vmem S2048x512 .f32) (h9 : a9.IsWhole) (a10 : Memref sig .tc .vmem S2048x512 .f32) (h10 : a10.IsWhole)
    (hc0 : cond0_0 i) (hc1 : ¬cond0_1 i) (x0 : Vec F S2048x512 .bf16) (x1 x2 : Vec F S1x512x512 .i8) (x3 x4 : Vec F S1x1x1x8x64 .f32) :
    sout0_A_0 c i a3 h3 a4 h4 a5 h5 a6 h6 a7 h7 a8 h8 a9 h9 a10 h10 hc0 hc1 x0 x1 x2 x3 x4 = step zeroTile x0 x1 x3 := by
  unfold sout0_A_0
  rw [View.read_writes_eq_canon _ _ _ (scover0_A_0 c i a3 h3 a4 h4 a5 h5 a6 h6 a7 h7 a8 h8 a9 h9 a10 h10 hc0 hc1 x0 x1 x2 x3 x4)]
  unfold kernelRun0_A
  dsimp only
  sl_unfold_words
  rw [View.canon_cons_unit_zero (S := S2048x512) hz]
  simp only [View.readAt_eq_ld, h3.read_unread, h4.read_unread, h5.read_unread, h6.read_unread, h7.read_unread, h9.read_unread, h10.read_unread,
    View.ld_unit_zero (S := S2048x512) hz, View.ld_unit_zero (S := S1x512x512) hz3, View.ld_unit_zero (S := S1x1x1x8x64) hz5, View.readCov_unit_zero (S := S2048x512) _ hz]
  rfl

/-- At the first step of a tile (`k = 0`) the second accumulator holds one step from zero. -/
theorem sout_A_1 (c : Dev nD) (i : grid0.Coords) (a3 : Memref sig .tc .vmem S2048x512 .bf16) (h3 : a3.IsWhole) (a4 : Memref sig .tc .vmem S1x512x512 .i8) (h4 : a4.IsWhole) (a5 : Memref sig .tc .vmem S1x512x512 .i8) (h5 : a5.IsWhole) (a6 : Memref sig .tc .vmem S1x1x1x8x64 .f32) (h6 : a6.IsWhole) (a7 : Memref sig .tc .vmem S1x1x1x8x64 .f32) (h7 : a7.IsWhole) (a8 : Memref sig .tc .vmem S2048x512 .bf16) (h8 : a8.IsWhole) (a9 : Memref sig .tc .vmem S2048x512 .f32) (h9 : a9.IsWhole) (a10 : Memref sig .tc .vmem S2048x512 .f32) (h10 : a10.IsWhole)
    (hc0 : cond0_0 i) (hc1 : ¬cond0_1 i) (x0 : Vec F S2048x512 .bf16) (x1 x2 : Vec F S1x512x512 .i8) (x3 x4 : Vec F S1x1x1x8x64 .f32) :
    sout0_A_1 c i a3 h3 a4 h4 a5 h5 a6 h6 a7 h7 a8 h8 a9 h9 a10 h10 hc0 hc1 x0 x1 x2 x3 x4 = step zeroTile x0 x2 x4 := by
  unfold sout0_A_1
  rw [View.read_writes_eq_canon _ _ _ (scover0_A_1 c i a3 h3 a4 h4 a5 h5 a6 h6 a7 h7 a8 h8 a9 h9 a10 h10 hc0 hc1 x0 x1 x2 x3 x4)]
  unfold kernelRun0_A
  dsimp only
  sl_unfold_words
  rw [View.canon_cons_unit_zero (S := S2048x512) hz]
  simp only [View.readAt_eq_ld, h3.read_unread, h4.read_unread, h5.read_unread, h6.read_unread, h7.read_unread, h9.read_unread, h10.read_unread,
    View.ld_unit_zero (S := S2048x512) hz, View.ld_unit_zero (S := S1x512x512) hz3, View.ld_unit_zero (S := S1x1x1x8x64) hz5, View.readCov_unit_zero (S := S2048x512) _ hz]
  rfl

/-- At a middle step the first accumulator takes one step. -/
theorem sout_B_0 (c : Dev nD) (i : grid0.Coords) (a3 : Memref sig .tc .vmem S2048x512 .bf16) (h3 : a3.IsWhole) (a4 : Memref sig .tc .vmem S1x512x512 .i8) (h4 : a4.IsWhole) (a5 : Memref sig .tc .vmem S1x512x512 .i8) (h5 : a5.IsWhole) (a6 : Memref sig .tc .vmem S1x1x1x8x64 .f32) (h6 : a6.IsWhole) (a7 : Memref sig .tc .vmem S1x1x1x8x64 .f32) (h7 : a7.IsWhole) (a8 : Memref sig .tc .vmem S2048x512 .bf16) (h8 : a8.IsWhole) (a9 : Memref sig .tc .vmem S2048x512 .f32) (h9 : a9.IsWhole) (a10 : Memref sig .tc .vmem S2048x512 .f32) (h10 : a10.IsWhole)
    (hc0 : ¬cond0_0 i) (hc1 : ¬cond0_1 i) (x0 : Vec F S2048x512 .bf16) (x1 x2 : Vec F S1x512x512 .i8) (x3 x4 : Vec F S1x1x1x8x64 .f32) (xs0 xs1 : Vec F S2048x512 .f32) :
    sout0_B_0 c i a3 h3 a4 h4 a5 h5 a6 h6 a7 h7 a8 h8 a9 h9 a10 h10 hc0 hc1 x0 x1 x2 x3 x4 xs0 xs1 = step xs0 x0 x1 x3 := by
  unfold sout0_B_0
  rw [View.read_writes_eq_canon _ _ _ (scover0_B_0 c i a3 h3 a4 h4 a5 h5 a6 h6 a7 h7 a8 h8 a9 h9 a10 h10 hc0 hc1 x0 x1 x2 x3 x4 xs0 xs1)]
  unfold kernelRun0_B
  dsimp only
  sl_unfold_words
  rw [View.canon_cons_unit_zero (S := S2048x512) hz]
  simp only [View.readAt_eq_ld, h3.read_unread, h4.read_unread, h5.read_unread, h6.read_unread, h7.read_unread, h9.read_unread, h10.read_unread,
    View.ld_unit_zero (S := S2048x512) hz, View.ld_unit_zero (S := S1x512x512) hz3, View.ld_unit_zero (S := S1x1x1x8x64) hz5]
  rfl

/-- At a middle step the second accumulator takes one step. -/
theorem sout_B_1 (c : Dev nD) (i : grid0.Coords) (a3 : Memref sig .tc .vmem S2048x512 .bf16) (h3 : a3.IsWhole) (a4 : Memref sig .tc .vmem S1x512x512 .i8) (h4 : a4.IsWhole) (a5 : Memref sig .tc .vmem S1x512x512 .i8) (h5 : a5.IsWhole) (a6 : Memref sig .tc .vmem S1x1x1x8x64 .f32) (h6 : a6.IsWhole) (a7 : Memref sig .tc .vmem S1x1x1x8x64 .f32) (h7 : a7.IsWhole) (a8 : Memref sig .tc .vmem S2048x512 .bf16) (h8 : a8.IsWhole) (a9 : Memref sig .tc .vmem S2048x512 .f32) (h9 : a9.IsWhole) (a10 : Memref sig .tc .vmem S2048x512 .f32) (h10 : a10.IsWhole)
    (hc0 : ¬cond0_0 i) (hc1 : ¬cond0_1 i) (x0 : Vec F S2048x512 .bf16) (x1 x2 : Vec F S1x512x512 .i8) (x3 x4 : Vec F S1x1x1x8x64 .f32) (xs0 xs1 : Vec F S2048x512 .f32) :
    sout0_B_1 c i a3 h3 a4 h4 a5 h5 a6 h6 a7 h7 a8 h8 a9 h9 a10 h10 hc0 hc1 x0 x1 x2 x3 x4 xs0 xs1 = step xs1 x0 x2 x4 := by
  unfold sout0_B_1
  rw [View.read_writes_eq_canon _ _ _ (scover0_B_1 c i a3 h3 a4 h4 a5 h5 a6 h6 a7 h7 a8 h8 a9 h9 a10 h10 hc0 hc1 x0 x1 x2 x3 x4 xs0 xs1)]
  unfold kernelRun0_B
  dsimp only
  sl_unfold_words
  rw [View.canon_cons_unit_zero (S := S2048x512) hz]
  simp only [View.readAt_eq_ld, h3.read_unread, h4.read_unread, h5.read_unread, h6.read_unread, h7.read_unread, h9.read_unread, h10.read_unread,
    View.ld_unit_zero (S := S2048x512) hz, View.ld_unit_zero (S := S1x512x512) hz3, View.ld_unit_zero (S := S1x1x1x8x64) hz5]
  rfl

/-- At the last step of a tile the first accumulator takes one step. -/
theorem sout_C_0 (c : Dev nD) (i : grid0.Coords) (a3 : Memref sig .tc .vmem S2048x512 .bf16) (h3 : a3.IsWhole) (a4 : Memref sig .tc .vmem S1x512x512 .i8) (h4 : a4.IsWhole) (a5 : Memref sig .tc .vmem S1x512x512 .i8) (h5 : a5.IsWhole) (a6 : Memref sig .tc .vmem S1x1x1x8x64 .f32) (h6 : a6.IsWhole) (a7 : Memref sig .tc .vmem S1x1x1x8x64 .f32) (h7 : a7.IsWhole) (a8 : Memref sig .tc .vmem S2048x512 .bf16) (h8 : a8.IsWhole) (a9 : Memref sig .tc .vmem S2048x512 .f32) (h9 : a9.IsWhole) (a10 : Memref sig .tc .vmem S2048x512 .f32) (h10 : a10.IsWhole)
    (hc0 : ¬cond0_0 i) (hc1 : cond0_1 i) (x0 : Vec F S2048x512 .bf16) (x1 x2 : Vec F S1x512x512 .i8) (x3 x4 : Vec F S1x1x1x8x64 .f32) (xs0 xs1 : Vec F S2048x512 .f32) :
    sout0_C_0 c i a3 h3 a4 h4 a5 h5 a6 h6 a7 h7 a8 h8 a9 h9 a10 h10 hc0 hc1 x0 x1 x2 x3 x4 xs0 xs1 = step xs0 x0 x1 x3 := by
  unfold sout0_C_0
  rw [View.read_writes_eq_canon _ _ _ (scover0_C_0 c i a3 h3 a4 h4 a5 h5 a6 h6 a7 h7 a8 h8 a9 h9 a10 h10 hc0 hc1 x0 x1 x2 x3 x4 xs0 xs1)]
  unfold kernelRun0_C
  dsimp only
  sl_unfold_words
  rw [View.canon_cons_unit_zero (S := S2048x512) hz]
  simp only [View.readAt_eq_ld, h3.read_unread, h4.read_unread, h5.read_unread, h6.read_unread, h7.read_unread, h9.read_unread, h10.read_unread,
    View.ld_unit_zero (S := S2048x512) hz, View.ld_unit_zero (S := S1x512x512) hz3, View.ld_unit_zero (S := S1x1x1x8x64) hz5]
  rfl

/-- At the last step of a tile the second accumulator takes one step. -/
theorem sout_C_1 (c : Dev nD) (i : grid0.Coords) (a3 : Memref sig .tc .vmem S2048x512 .bf16) (h3 : a3.IsWhole) (a4 : Memref sig .tc .vmem S1x512x512 .i8) (h4 : a4.IsWhole) (a5 : Memref sig .tc .vmem S1x512x512 .i8) (h5 : a5.IsWhole) (a6 : Memref sig .tc .vmem S1x1x1x8x64 .f32) (h6 : a6.IsWhole) (a7 : Memref sig .tc .vmem S1x1x1x8x64 .f32) (h7 : a7.IsWhole) (a8 : Memref sig .tc .vmem S2048x512 .bf16) (h8 : a8.IsWhole) (a9 : Memref sig .tc .vmem S2048x512 .f32) (h9 : a9.IsWhole) (a10 : Memref sig .tc .vmem S2048x512 .f32) (h10 : a10.IsWhole)
    (hc0 : ¬cond0_0 i) (hc1 : cond0_1 i) (x0 : Vec F S2048x512 .bf16) (x1 x2 : Vec F S1x512x512 .i8) (x3 x4 : Vec F S1x1x1x8x64 .f32) (xs0 xs1 : Vec F S2048x512 .f32) :
    sout0_C_1 c i a3 h3 a4 h4 a5 h5 a6 h6 a7 h7 a8 h8 a9 h9 a10 h10 hc0 hc1 x0 x1 x2 x3 x4 xs0 xs1 = step xs1 x0 x2 x4 := by
  unfold sout0_C_1
  rw [View.read_writes_eq_canon _ _ _ (scover0_C_1 c i a3 h3 a4 h4 a5 h5 a6 h6 a7 h7 a8 h8 a9 h9 a10 h10 hc0 hc1 x0 x1 x2 x3 x4 xs0 xs1)]
  unfold kernelRun0_C
  dsimp only
  sl_unfold_words
  rw [View.canon_cons_unit_zero (S := S2048x512) hz]
  simp only [View.readAt_eq_ld, h3.read_unread, h4.read_unread, h5.read_unread, h6.read_unread, h7.read_unread, h9.read_unread, h10.read_unread,
    View.ld_unit_zero (S := S2048x512) hz, View.ld_unit_zero (S := S1x512x512) hz3, View.ld_unit_zero (S := S1x1x1x8x64) hz5]
  rfl

/-- At the last step of a tile the output block is the gated product of the two accumulators. -/
theorem out_C_5 (c : Dev nD) (i : grid0.Coords) (a3 : Memref sig .tc .vmem S2048x512 .bf16) (h3 : a3.IsWhole) (a4 : Memref sig .tc .vmem S1x512x512 .i8) (h4 : a4.IsWhole) (a5 : Memref sig .tc .vmem S1x512x512 .i8) (h5 : a5.IsWhole) (a6 : Memref sig .tc .vmem S1x1x1x8x64 .f32) (h6 : a6.IsWhole) (a7 : Memref sig .tc .vmem S1x1x1x8x64 .f32) (h7 : a7.IsWhole) (a8 : Memref sig .tc .vmem S2048x512 .bf16) (h8 : a8.IsWhole) (a9 : Memref sig .tc .vmem S2048x512 .f32) (h9 : a9.IsWhole) (a10 : Memref sig .tc .vmem S2048x512 .f32) (h10 : a10.IsWhole)
    (hc0 : ¬cond0_0 i) (hc1 : cond0_1 i) (x0 : Vec F S2048x512 .bf16) (x1 x2 : Vec F S1x512x512 .i8) (x3 x4 : Vec F S1x1x1x8x64 .f32) (xs0 xs1 : Vec F S2048x512 .f32) :
    out0_C_5 c i a3 h3 a4 h4 a5 h5 a6 h6 a7 h7 a8 h8 a9 h9 a10 h10 hc0 hc1 x0 x1 x2 x3 x4 xs0 xs1 = k0_pay3 (step xs0 x0 x1 x3) (step xs1 x0 x2 x4) := by
  unfold out0_C_5
  rw [View.read_writes_eq_canon _ _ _ (cover0_C_5 c i a3 h3 a4 h4 a5 h5 a6 h6 a7 h7 a8 h8 a9 h9 a10 h10 hc0 hc1 x0 x1 x2 x3 x4 xs0 xs1)]
  unfold kernelRun0_C
  dsimp only
  sl_unfold_words
  rw [View.canon_cons_unit_zero (S := S2048x512) hz]
  simp only [View.readAt_eq_ld, h3.read_unread, h4.read_unread, h5.read_unread, h6.read_unread, h7.read_unread, h9.read_unread, h10.read_unread,
    View.ld_unit_zero (S := S2048x512) hz, View.ld_unit_zero (S := S1x512x512) hz3, View.ld_unit_zero (S := S1x1x1x8x64) hz5, View.readCov_unit_zero (S := S2048x512) _ hz]
  rfl

end Cert.KernelIdeal.Hand

end
-- ==== Proof.Tile.lean ====
/- The values of one block over the extended reals, element by element: a block of scales, a block of weights, one step of
   an accumulator, the zero block, and the output block. -/
module

public import proofs.«01_k».proof.Proof.Body
public import Idealize.ShloMosaic.Lib.MatmulPlain
public import Idealize.ShloMosaic.Lib.ValueIdx
public import Idealize.ShloMosaic.Lib.IdealHost

@[expose] public section

noncomputable section

open Idealize.ShloMosaic Idealize.ShloMosaic.ValueIdx
open scoped BigOperators

namespace Cert.KernelIdeal.Hand

open Cert.KernelIdeal Cert.KernelIdeal.Gen

/-- Row `r` of the piece of column `n` holds scale `(r, n)` in every column. -/
theorem piece_apply (s : FVec Ideal S8x64 .f32) (n : Fin 64) (r : Fin 8) (c : Fin 512) :
    piece s n (ix2 r c) = s (ix2 r n) := by
  unfold piece
  rw [broadcastTo_apply _ _ (ix2 r c) (ix2 r (0 : Fin 1)) (fun a => by fin_cases a <;> rfl), shapeCast_self]
  exact extractStridedSlice_apply _ _ _ _ _ (fun a => by
    fin_cases a
    · show r.val = 0 + r.val; omega
    · show n.val = n.val + 0; omega)

/-- Row `r` of a block of scales holds scale `(r mod 8, r / 8)` in every column. -/
theorem scaleTile_apply (s : Vec Ideal S1x1x1x8x64 .f32) (r c : Fin 512) :
    scaleTile s (ix2 r c) = s (ix5 (0 : Fin 1) (0 : Fin 1) (0 : Fin 1) (⟨r.val % 8, by omega⟩ : Fin 8) (⟨r.val / 8, by omega⟩ : Fin 64)) := by
  unfold scaleTile
  rw [concatenate_ofFn_apply (s₁ := S8x512) 0 (piece _) (pieces_fit _) rfl 8 rfl (ix2 r c) (⟨r.val / 8, by omega⟩ : Fin 64) rfl
    (ix2 (⟨r.val % 8, by omega⟩ : Fin 8) c) rfl (fun b hb => by
      fin_cases b
      · exact absurd rfl hb
      · rfl), piece_apply]
  refine shapeCast_apply _ _ _ _ ?_
  rw [Shape.rowMajor_val_five, Shape.rowMajor_val_two]
  show ((((0 * 1 + 0) * 1 + 0) * 8 + r.val % 8) * 64 + r.val / 8) = r.val % 8 * 64 + r.val / 8
  omega

/-- Element `(r, c)` of a block of weights: its code times its scale. -/
theorem weightTile_apply (w : Vec Ideal S1x512x512 .i8) (s : Vec Ideal S1x1x1x8x64 .f32) (r c : Fin 512) :
    weightTile w s (ix2 r c) = FloatOps.sitofp (F := Ideal) .f32 (w (ix3 (0 : Fin 1) r c))
      * s (ix5 (0 : Fin 1) (0 : Fin 1) (0 : Fin 1) (⟨r.val % 8, by omega⟩ : Fin 8) (⟨r.val / 8, by omega⟩ : Fin 64)) := by
  unfold weightTile
  rw [truncf_apply, mulf_apply, scaleTile_apply, sitofp_apply]
  congr 2
  refine shapeCast_apply _ _ _ _ ?_
  rw [Shape.rowMajor_val_three, Shape.rowMajor_val_two]
  show (0 * 512 + r.val) * 512 + c.val = r.val * 512 + c.val
  omega

/-- The zero block holds zero. -/
theorem zeroTile_apply (i : S2048x512.Idx) : zeroTile (F := Ideal) i = 0 := by
  unfold zeroTile
  rw [shapeCast_self]
  exact Ideal.ofBits_zero_f32

/-- One step adds, at `(r, c)`, row `r` of the block of `x` times column `c` of the block of weights. -/
theorem step_apply (acc : Vec Ideal S2048x512 .f32) (x : Vec Ideal S2048x512 .bf16) (w : Vec Ideal S1x512x512 .i8)
    (s : Vec Ideal S1x1x1x8x64 .f32) (r : Fin 2048) (c : Fin 512) :
    step acc x w s (ix2 r c) = acc (ix2 r c) + ∑ k : Fin 512, x (ix2 r k) * weightTile w s (ix2 k c) := by
  unfold step
  rw [shapeCast_self, shapeCast_self, addf_apply]
  have h := Ideal.matmul_plain_apply (M := 2048) (K := 512) (N := 512) (φ₁ := .bf16) (φ₂ := .bf16) none x (weightTile w s)
    (constant S2048x512 .f32 0x00000000#32) r c
  refine congrArg (acc (ix2 r c) + ·) (Eq.trans h ?_)
  rw [constant_apply, Ideal.ofBits_zero_f32, zero_add]

/-- The output block: the first accumulator times its logistic times the second. -/
theorem gated_apply (g u : Vec Ideal S2048x512 .f32) (i : S2048x512.Idx) :
    k0_pay3 g u i = g i * Ideal.logistic (g i) * u i := rfl

end Cert.KernelIdeal.Hand

end
-- ==== Proof.Blocks.lean ====
/- The blocks a grid point reads, at an index, in terms of the arguments. Point `t` is row block `t / 259` of `x`, column
   block `t / 37 mod 7` of the weights, and block `t mod 37` of the contracted axis. -/
module

public import proofs.«01_k».proof.Proof.Host
public import proofs.«01_k».proof.Proof.Tile

@[expose] public section

noncomputable section

open Idealize.ShloMosaic Idealize.ShloMosaic.TcCoe Idealize.SL.Sem Idealize.ShloMosaic.ValueIdx

namespace Cert.KernelIdeal.Hand

open Cert.KernelIdeal Cert.KernelIdeal.Gen

variable (m : (ℓ : Loc nD τ sig) → Buf (Elt Ideal) ℓ)

/-- Which block of `x` a point reads. -/
theorem index_x : ∀ t : Fin cfg0.N, win0_0.index t (0 : Fin 2) = t.val / 259 ∧ win0_0.index t (1 : Fin 2) = t.val % 37 :=
  (by decide +kernel : ∀ t : Fin grid0.N, _)
/-- Which block of the first weight matrix a point reads. -/
theorem index_w0 : ∀ t : Fin cfg0.N, win0_1.index t (0 : Fin 3) = 0 ∧ win0_1.index t (1 : Fin 3) = t.val % 37
    ∧ win0_1.index t (2 : Fin 3) = t.val / 37 % 7 :=
  (by decide +kernel : ∀ t : Fin grid0.N, _)
/-- Which block of the second weight matrix a point reads. -/
theorem index_w1 : ∀ t : Fin cfg0.N, win0_2.index t (0 : Fin 3) = 1 ∧ win0_2.index t (1 : Fin 3) = t.val % 37
    ∧ win0_2.index t (2 : Fin 3) = t.val / 37 % 7 :=
  (by decide +kernel : ∀ t : Fin grid0.N, _)
/-- Which scales of the first weight matrix a point reads. -/
theorem index_s0 : ∀ t : Fin cfg0.N, win0_3.index t (0 : Fin 5) = 0 ∧ win0_3.index t (1 : Fin 5) = t.val / 37 % 7
    ∧ win0_3.index t (2 : Fin 5) = t.val % 37 ∧ win0_3.index t (3 : Fin 5) = 0 ∧ win0_3.index t (4 : Fin 5) = 0 :=
  (by decide +kernel : ∀ t : Fin grid0.N, _)
/-- Which scales of the second weight matrix a point reads. -/
theorem index_s1 : ∀ t : Fin cfg0.N, win0_4.index t (0 : Fin 5) = 1 ∧ win0_4.index t (1 : Fin 5) = t.val / 37 % 7
    ∧ win0_4.index t (2 : Fin 5) = t.val % 37 ∧ win0_4.index t (3 : Fin 5) = 0 ∧ win0_4.index t (4 : Fin 5) = 0 :=
  (by decide +kernel : ∀ t : Fin grid0.N, _)

/-- A point's number is below 777. -/
theorem point_lt (t : Fin cfg0.N) : t.val < 777 := lt_of_lt_of_eq t.isLt (show cfg0.N = 777 from N_0)

/-- Row `r` of the block of rows that point `t` works on. -/
abbrev rowOf (t : ℕ) (ht : t < 777) (r : Fin 2048) : Fin 6144 := ⟨t / 259 * 2048 + r.val, by omega⟩
/-- Column `n` of the block of columns that point `t` works on. -/
abbrev colOf (t : ℕ) (n : Fin 512) : Fin 3584 := ⟨t / 37 % 7 * 512 + n.val, by omega⟩
/-- Position `k` of the block of the contracted axis that point `t` works on. -/
abbrev posOf (t : ℕ) (k : Fin 512) : Fin 18944 := ⟨t % 37 * 512 + k.val, by omega⟩

/-- The block of `x` at point `t`. -/
theorem block_x (c : Dev nD) (t : Fin cfg0.N) (r : Fin 2048) (k : Fin 512) :
    (iblk m c 0 t : Vec Ideal S2048x512 .bf16) (ix2 r k) = Gated.row (argX m c) (rowOf t.val (point_lt t) r) (posOf t.val k) := by
  rw [← entry_x_apply]
  obtain ⟨h0, h1⟩ := index_x t
  refine congrArg (V m c main_v0) (funext fun a => Fin.ext ?_)
  fin_cases a
  · show win0_0.index t 0 * 2048 + 1 * r.val = t.val / 259 * 2048 + r.val
    rw [h0]; omega
  · show win0_0.index t 1 * 512 + 1 * k.val = t.val % 37 * 512 + k.val
    rw [h1]; omega

/-- The block of codes of the first matrix at point `t`. -/
theorem block_w0 (c : Dev nD) (t : Fin cfg0.N) (k n : Fin 512) :
    (iblk m c 1 t : Vec Ideal S1x512x512 .i8) (ix3 (0 : Fin 1) k n) = V m c main_v1 (ix3 (0 : Fin 2) (posOf t.val k) (colOf t.val n)) := by
  obtain ⟨h0, h1, h2⟩ := index_w0 t
  refine congrArg (V m c main_v1) (funext fun a => Fin.ext ?_)
  fin_cases a
  · show win0_1.index t 0 * 1 + 1 * 0 = 0
    rw [h0]
  · show win0_1.index t 1 * 512 + 1 * k.val = t.val % 37 * 512 + k.val
    rw [h1]; omega
  · show win0_1.index t 2 * 512 + 1 * n.val = t.val / 37 % 7 * 512 + n.val
    rw [h2]; omega

/-- The block of codes of the second matrix at point `t`. -/
theorem block_w1 (c : Dev nD) (t : Fin cfg0.N) (k n : Fin 512) :
    (iblk m c 2 t : Vec Ideal S1x512x512 .i8) (ix3 (0 : Fin 1) k n) = V m c main_v1 (ix3 (1 : Fin 2) (posOf t.val k) (colOf t.val n)) := by
  obtain ⟨h0, h1, h2⟩ := index_w1 t
  refine congrArg (V m c main_v1) (funext fun a => Fin.ext ?_)
  fin_cases a
  · show win0_2.index t 0 * 1 + 1 * 0 = 1
    rw [h0]
  · show win0_2.index t 1 * 512 + 1 * k.val = t.val % 37 * 512 + k.val
    rw [h1]; omega
  · show win0_2.index t 2 * 512 + 1 * n.val = t.val / 37 % 7 * 512 + n.val
    rw [h2]; omega

/-- The block of scales of the first matrix at point `t`. -/
theorem block_s0 (c : Dev nD) (t : Fin cfg0.N) (a : Fin 8) (b : Fin 64) :
    (iblk m c 3 t : Vec Ideal S1x1x1x8x64 .f32) (ix5 (0 : Fin 1) (0 : Fin 1) (0 : Fin 1) a b)
      = V m c main_v8 (ix5 (0 : Fin 2) (⟨t.val / 37 % 7, by omega⟩ : Fin 7) (⟨t.val % 37, by omega⟩ : Fin 37) a b) := by
  obtain ⟨h0, h1, h2, h3, h4⟩ := index_s0 t
  refine congrArg (V m c main_v8) (funext fun d => Fin.ext ?_)
  fin_cases d
  · show win0_3.index t 0 * 1 + 1 * 0 = 0
    rw [h0]
  · show win0_3.index t 1 * 1 + 1 * 0 = t.val / 37 % 7
    rw [h1]; omega
  · show win0_3.index t 2 * 1 + 1 * 0 = t.val % 37
    rw [h2]; omega
  · show win0_3.index t 3 * 8 + 1 * a.val = a.val
    rw [h3]; omega
  · show win0_3.index t 4 * 64 + 1 * b.val = b.val
    rw [h4]; omega

/-- The block of scales of the second matrix at point `t`. -/
theorem block_s1 (c : Dev nD) (t : Fin cfg0.N) (a : Fin 8) (b : Fin 64) :
    (iblk m c 4 t : Vec Ideal S1x1x1x8x64 .f32) (ix5 (0 : Fin 1) (0 : Fin 1) (0 : Fin 1) a b)
      = V m c main_v8 (ix5 (1 : Fin 2) (⟨t.val / 37 % 7, by omega⟩ : Fin 7) (⟨t.val % 37, by omega⟩ : Fin 37) a b) := by
  obtain ⟨h0, h1, h2, h3, h4⟩ := index_s1 t
  refine congrArg (V m c main_v8) (funext fun d => Fin.ext ?_)
  fin_cases d
  · show win0_4.index t 0 * 1 + 1 * 0 = 1
    rw [h0]
  · show win0_4.index t 1 * 1 + 1 * 0 = t.val / 37 % 7
    rw [h1]; omega
  · show win0_4.index t 2 * 1 + 1 * 0 = t.val % 37
    rw [h2]; omega
  · show win0_4.index t 3 * 8 + 1 * a.val = a.val
    rw [h3]; omega
  · show win0_4.index t 4 * 64 + 1 * b.val = b.val
    rw [h4]; omega

/-- A code and its scale as the launch finds them are the weight of the problem: the kernel's group of 512 columns out of 4
    lies in the problem's block of 2048. -/
theorem entry_weight (c : Dev nD) (g : Fin 2) (t : ℕ) (k n : Fin 512) :
    FloatOps.sitofp (F := Ideal) .f32 (V m c main_v1 (ix3 g (posOf t k) (colOf t n)))
      * V m c main_v8 (ix5 g (⟨t / 37 % 7, by omega⟩ : Fin 7) (⟨t % 37, by omega⟩ : Fin 37) (⟨k.val % 8, by omega⟩ : Fin 8) (⟨k.val / 8, by omega⟩ : Fin 64))
      = Gated.weight (argW m c) (argS m c) g (posOf t k) (colOf t n) := by
  unfold Gated.weight
  rw [entry_w_apply, entry_s_apply]
  refine congrArg₂ (· * ·) rfl (congrArg (argS m c) (congrArg ix1 (Fin.ext ?_)))
  show (g.val * 132608 + (t % 37 * 512 + k.val / 8 * 8 + k.val % 8) * 7 + t / 37 % 7) / 4
    = (g.val * 67895296 + (t % 37 * 512 + k.val) * 3584 + (t / 37 % 7 * 512 + n.val)) / 2048
  omega

/-- The block of weights of the first matrix at point `t`. -/
theorem block_weight0 (c : Dev nD) (t : Fin cfg0.N) (k n : Fin 512) :
    weightTile (iblk m c 1 t) (iblk m c 3 t) (ix2 k n) = Gated.weight (argW m c) (argS m c) 0 (posOf t.val k) (colOf t.val n) := by
  rw [weightTile_apply, block_w0, block_s0]
  exact entry_weight m c 0 t.val k n

/-- The block of weights of the second matrix at point `t`. -/
theorem block_weight1 (c : Dev nD) (t : Fin cfg0.N) (k n : Fin 512) :
    weightTile (iblk m c 2 t) (iblk m c 4 t) (ix2 k n) = Gated.weight (argW m c) (argS m c) 1 (posOf t.val k) (colOf t.val n) := by
  rw [weightTile_apply, block_w1, block_s1]
  exact entry_weight m c 1 t.val k n

end Cert.KernelIdeal.Hand

end
-- ==== Proof.Steps.lean ====
/- The two accumulators and the output block after each grid point, as recurrences over the points. Point `t` works on
   tile `t / 37` of the result and on block `t mod 37` of the contracted axis. -/
module

public import proofs.«01_k».proof.Proof.Body

@[expose] public section

noncomputable section

open Idealize.ShloMosaic Idealize.ShloMosaic.TcCoe Idealize.SL.Sem

namespace Cert.KernelIdeal.Hand

open Cert.KernelIdeal Cert.KernelIdeal.Gen

variable {F : FTy → Type} [FloatOps F]
variable (m : (ℓ : Loc nD τ sig) → Buf (Elt F) ℓ)

/-- The first accumulator after point `n`. -/
abbrev gateAt (c : Dev nD) (n : ℕ) (h : n < cfg0.N) : Vec F S2048x512 .f32 := (outsAt0 m c n h).2.1
/-- The second accumulator after point `n`. -/
abbrev upAt (c : Dev nD) (n : ℕ) (h : n < cfg0.N) : Vec F S2048x512 .f32 := (outsAt0 m c n h).2.2

/-- The first accumulator starts a tile from zero. -/
theorem gateAt_first (c : Dev nD) (t : Fin cfg0.N) (h0 : t.val % 37 = 0) :
    gateAt m c t.val t.isLt = step zeroTile (iblk m c 0 t) (iblk m c 1 t) (iblk m c 3 t) := by
  unfold gateAt
  rw [outsAt0_A m c t h0 (by omega)]
  dsimp only; rw [sout_A_0]

/-- The second accumulator starts a tile from zero. -/
theorem upAt_first (c : Dev nD) (t : Fin cfg0.N) (h0 : t.val % 37 = 0) :
    upAt m c t.val t.isLt = step zeroTile (iblk m c 0 t) (iblk m c 2 t) (iblk m c 4 t) := by
  unfold upAt
  rw [outsAt0_A m c t h0 (by omega)]
  dsimp only; rw [sout_A_1]

/-- At every other point of a tile the first accumulator takes one step from what the point before left. -/
theorem gateAt_next (c : Dev nD) (t : Fin cfg0.N) (h0 : ¬t.val % 37 = 0) :
    gateAt m c t.val t.isLt = step (gateAt m c (t.val - 1) (Nat.lt_of_le_of_lt (Nat.sub_le _ _) t.isLt))
      (iblk m c 0 t) (iblk m c 1 t) (iblk m c 3 t) := by
  unfold gateAt
  by_cases h1 : t.val % 37 = 36
  · rw [outsAt0_C m c t h0 h1]; dsimp only; rw [sout_C_0]
  · rw [outsAt0_B m c t h0 h1]; dsimp only; rw [sout_B_0]

/-- At every other point of a tile the second accumulator takes one step from what the point before left. -/
theorem upAt_next (c : Dev nD) (t : Fin cfg0.N) (h0 : ¬t.val % 37 = 0) :
    upAt m c t.val t.isLt = step (upAt m c (t.val - 1) (Nat.lt_of_le_of_lt (Nat.sub_le _ _) t.isLt))
      (iblk m c 0 t) (iblk m c 2 t) (iblk m c 4 t) := by
  unfold upAt
  by_cases h1 : t.val % 37 = 36
  · rw [outsAt0_C m c t h0 h1]; dsimp only; rw [sout_C_1]
  · rw [outsAt0_B m c t h0 h1]; dsimp only; rw [sout_B_1]

/-- At the last point of a tile the output block is the gated product of the two accumulators. -/
theorem outAt_last (c : Dev nD) (t : Fin cfg0.N) (h1 : t.val % 37 = 36) :
    (outsAt0 m c t.val t.isLt).1 = k0_pay3 (gateAt m c t.val t.isLt) (upAt m c t.val t.isLt) := by
  rw [gateAt_next m c t (by omega), upAt_next m c t (by omega), outsAt0_C m c t (by omega) h1]
  dsimp only; rw [out_C_5]

end Cert.KernelIdeal.Hand

end
-- ==== Proof.Fold.lean ====
/- The accumulators as sums along the contracted axis: after block `q` of the axis an accumulator holds the products of the
   first `(q + 1) * 512` positions, so at the last block it holds the whole projection, and the output block holds the
   result of the problem. -/
module

public import proofs.«01_k».proof.Proof.Blocks
public import proofs.«01_k».proof.Proof.Steps

@[expose] public section

noncomputable section

open Idealize.ShloMosaic Idealize.ShloMosaic.TcCoe Idealize.SL.Sem Idealize.ShloMosaic.ValueIdx
open scoped BigOperators

namespace Cert.KernelIdeal.Hand

open Cert.KernelIdeal Cert.KernelIdeal.Gen

variable (m : (ℓ : Loc nD τ sig) → Buf (Elt Ideal) ℓ)

/-- The products of one block of the axis continue the sum of the blocks before it. -/
theorem sum_block (f : ℕ → EReal) (q : ℕ) :
    ∑ k ∈ Finset.range ((q + 1) * 512), f k = ∑ k ∈ Finset.range (q * 512), f k + ∑ k : Fin 512, f (q * 512 + k.val) := by
  rw [Nat.add_mul, Nat.one_mul, Finset.sum_range_add, Finset.sum_range (fun k => f (q * 512 + k))]

/-- A product of the problem inside the axis. -/
theorem term_at (c : Dev nD) (g : Fin 2) (r : Fin 6144) (n : Fin 3584) (k : Fin 18944) :
    Gated.term (argX m c) (argW m c) (argS m c) g r n k.val
      = Gated.row (argX m c) r k * Gated.weight (argW m c) (argS m c) g k n :=
  dif_pos k.isLt

/-- One step of the first accumulator adds the products of the point's block of the axis. -/
theorem gate_step (c : Dev nD) (t : Fin cfg0.N) (acc : Vec Ideal S2048x512 .f32) (r : Fin 2048) (n : Fin 512) :
    step acc (iblk m c 0 t) (iblk m c 1 t) (iblk m c 3 t) (ix2 r n)
      = acc (ix2 r n) + ∑ k : Fin 512, Gated.term (argX m c) (argW m c) (argS m c) 0 (rowOf t.val (point_lt t) r) (colOf t.val n) (t.val % 37 * 512 + k.val) := by
  rw [step_apply]
  refine congrArg (acc (ix2 r n) + ·) (Finset.sum_congr rfl fun k _ => ?_)
  rw [block_x, block_weight0]
  exact (term_at m c 0 _ _ (posOf t.val k)).symm

/-- One step of the second accumulator adds the products of the point's block of the axis. -/
theorem up_step (c : Dev nD) (t : Fin cfg0.N) (acc : Vec Ideal S2048x512 .f32) (r : Fin 2048) (n : Fin 512) :
    step acc (iblk m c 0 t) (iblk m c 2 t) (iblk m c 4 t) (ix2 r n)
      = acc (ix2 r n) + ∑ k : Fin 512, Gated.term (argX m c) (argW m c) (argS m c) 1 (rowOf t.val (point_lt t) r) (colOf t.val n) (t.val % 37 * 512 + k.val) := by
  rw [step_apply]
  refine congrArg (acc (ix2 r n) + ·) (Finset.sum_congr rfl fun k _ => ?_)
  rw [block_x, block_weight1]
  exact (term_at m c 1 _ _ (posOf t.val k)).symm

/-- What both accumulators hold after a point: the products of the blocks of the axis done so far. -/
theorem acc_sum (c : Dev nD) (n : ℕ) : ∀ (h : n < cfg0.N) (h' : n < 777) (r : Fin 2048) (q : Fin 512),
    gateAt m c n h (ix2 r q)
        = ∑ k ∈ Finset.range ((n % 37 + 1) * 512), Gated.term (argX m c) (argW m c) (argS m c) 0 (rowOf n h' r) (colOf n q) k
    ∧ upAt m c n h (ix2 r q)
        = ∑ k ∈ Finset.range ((n % 37 + 1) * 512), Gated.term (argX m c) (argW m c) (argS m c) 1 (rowOf n h' r) (colOf n q) k := by
  induction n with
  | zero =>
    intro h h' r q
    rw [sum_block, sum_block]
    constructor
    · refine (congrFun (gateAt_first m c ⟨0, h⟩ rfl) (ix2 r q)).trans ((gate_step m c ⟨0, h⟩ _ r q).trans ?_)
      rw [zeroTile_apply]
      refine congrArg (· + _) ?_
      rw [show (0 : ℕ) % 37 * 512 = 0 from rfl, Finset.sum_range_zero]
    · refine (congrFun (upAt_first m c ⟨0, h⟩ rfl) (ix2 r q)).trans ((up_step m c ⟨0, h⟩ _ r q).trans ?_)
      rw [zeroTile_apply]
      refine congrArg (· + _) ?_
      rw [show (0 : ℕ) % 37 * 512 = 0 from rfl, Finset.sum_range_zero]
  | succ n ih =>
    intro h h' r q
    by_cases h0 : (n + 1) % 37 = 0
    · rw [sum_block, sum_block]
      constructor
      · refine (congrFun (gateAt_first m c ⟨n + 1, h⟩ h0) (ix2 r q)).trans ((gate_step m c ⟨n + 1, h⟩ _ r q).trans ?_)
        rw [zeroTile_apply]
        refine congrArg (· + _) ?_
        rw [h0, Nat.zero_mul, Finset.sum_range_zero]
      · refine (congrFun (upAt_first m c ⟨n + 1, h⟩ h0) (ix2 r q)).trans ((up_step m c ⟨n + 1, h⟩ _ r q).trans ?_)
        rw [zeroTile_apply]
        refine congrArg (· + _) ?_
        rw [h0, Nat.zero_mul, Finset.sum_range_zero]
    · obtain ⟨ig, iu⟩ := ih (Nat.lt_of_succ_lt h) (Nat.lt_of_succ_lt h') r q
      have er : rowOf (n + 1) h' r = rowOf n (Nat.lt_of_succ_lt h') r := Fin.ext (by
        show (n + 1) / 259 * 2048 + r.val = n / 259 * 2048 + r.val
        omega)
      have ec : colOf (n + 1) q = colOf n q := Fin.ext (by
        show (n + 1) / 37 % 7 * 512 + q.val = n / 37 % 7 * 512 + q.val
        omega)
      have em : n % 37 + 1 = (n + 1) % 37 := by omega
      rw [em] at ig iu
      rw [sum_block, sum_block]
      constructor
      · refine (congrFun (gateAt_next m c ⟨n + 1, h⟩ h0) (ix2 r q)).trans ((gate_step m c ⟨n + 1, h⟩ _ r q).trans ?_)
        refine congrArg (· + _) (ig.trans ?_)
        rw [er, ec]
      · refine (congrFun (upAt_next m c ⟨n + 1, h⟩ h0) (ix2 r q)).trans ((up_step m c ⟨n + 1, h⟩ _ r q).trans ?_)
        refine congrArg (· + _) (iu.trans ?_)
        rw [er, ec]

/-- The output block a tile's last point leaves is the result of the problem on the tile's rows and columns. -/
theorem out_value (c : Dev nD) (t : Fin cfg0.N) (h1 : t.val % 37 = 36) (r : Fin 2048) (q : Fin 512) :
    ((outsAt0 m c t.val t.isLt).1 : Vec Ideal S2048x512 .bf16) (ix2 r q)
      = Gated.result (argX m c) (argW m c) (argS m c) (rowOf t.val (point_lt t) r) (colOf t.val q) := by
  obtain ⟨hg, hu⟩ := acc_sum m c t.val t.isLt (point_lt t) r q
  rw [h1, show (36 + 1) * 512 = 18944 from rfl, Gated.sum_term] at hg hu
  rw [outAt_last m c t h1, gated_apply, hg, hu]
  rfl

end Cert.KernelIdeal.Hand

end
-- ==== Proof.Final.lean ====
/- The result array after the run: the output blocks of the tiles' last points cover it, so it holds the result of the
   problem at every row and column. -/
module

public import proofs.«01_k».proof.Proof.Fold

@[expose] public section

noncomputable section

open Idealize.ShloMosaic Idealize.ShloMosaic.TcCoe Idealize.SL.Sem Idealize.ShloMosaic.ValueIdx

namespace Cert.KernelIdeal.Hand

open Cert.KernelIdeal Cert.KernelIdeal.Gen

variable (m : (ℓ : Loc nD τ sig) → Buf (Elt Ideal) ℓ)

/-- The result of the problem as an array of 6144 rows. -/
def resultRows (c : Dev nD) : Vec Ideal S6144x3584 .bf16 := fun i => Gated.result (argX m c) (argW m c) (argS m c) (i 0) (i 1)

/-- Which block of the result a point works on. -/
theorem index_out : ∀ t : Fin cfg0.N, win0_5.index t (0 : Fin 2) = t.val / 259 ∧ win0_5.index t (1 : Fin 2) = t.val / 37 % 7 :=
  (by decide +kernel : ∀ t : Fin grid0.N, _)

/-- Each tile's last point. -/
abbrev lastPoint (q0 : Fin 3) (q1 : Fin 7) : Fin grid0.N := ⟨37 * (7 * q0.val + q1.val) + 36, lt_of_lt_of_eq (by omega) N_0.symm⟩

/-- An index of the array is in a point's block when each coordinate is in the block's range. -/
theorem mem_block (t : Fin cfg0.N) (i : S6144x3584.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v9).slice (win0_5.rect t)).set ↔ _
  rw [View.set_slice_whole, Rect.mem_set_unit]
  exact Iff.rfl

/-- Every index of the array is in the block of some tile's last point. -/
theorem covered (i : S6144x3584.Idx) : ∃ t : Fin cfg0.N, (cfg0.win 5).flush t = true ∧ i ∈ ((cfg0.win 5).blk t).view.set := by
  have hi0 : (i 0).val < 6144 := (i 0).isLt
  have hi1 : (i 1).val < 3584 := (i 1).isLt
  let t : Fin cfg0.N := lastPoint ⟨(i 0).val / 2048, by omega⟩ ⟨(i 1).val / 512, by omega⟩
  have hv : t.val = 37 * (7 * ((i 0).val / 2048) + (i 1).val / 512) + 36 := rfl
  obtain ⟨e0, e1⟩ := index_out t
  refine ⟨t, (flush0_5 t).mpr (by omega), ?_⟩
  rw [mem_block]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 512 ≤ (i 1).val ∧ (i 1).val < win0_5.index t (1 : Fin 2) * 512 + 512; omega

/-- What a tile's last point writes back is its block of the result. -/
theorem written_back (c : Dev nD) (t : Fin cfg0.N) (hf : (cfg0.win 5).flush t = true) :
    (dats m 0 c).flushed 5 t = ((cfg0.win 5).blk t).view.read (Elt Ideal) (resultRows m c) := by
  show (cfg0.win 5).cut (grid0.coords t) ((dats m 0 c).after 5 t) = _
  rw [after0_5]
  have hm : t.val % 37 = 36 := (flush0_5 t).mp hf
  obtain ⟨e0, e1⟩ := index_out t
  funext y
  have hb0 : (((cfg0.win 5).blk t).view.emb y 0).val = win0_5.index t (0 : Fin 2) * 2048 + 1 * (y 0).val := rfl
  have hb1 : (((cfg0.win 5).blk t).view.emb y 1).val = win0_5.index t (1 : Fin 2) * 512 + 1 * (y 1).val := rfl
  have hy : (cfg0.win 5).xinj (grid0.coords t) y = ix2 (⟨(y 0).val, (y 0).isLt⟩ : Fin 2048) (⟨(y 1).val, (y 1).isLt⟩ : Fin 512) := by
    funext a; apply Fin.ext
    match a with
    | ⟨0, _⟩ => rfl
    | ⟨1, _⟩ => rfl
  show (outsAt0 m c t.val t.isLt).1 ((cfg0.win 5).xinj (grid0.coords t) y) = resultRows m c (((cfg0.win 5).blk t).view.emb y)
  rw [hy, out_value m c t hm]
  refine congrArg₂ (Gated.result (argX m c) (argW m c) (argS m c)) (Fin.ext ?_) (Fin.ext ?_)
  · show t.val / 259 * 2048 + (y 0).val = _
    refine Eq.trans ?_ hb0.symm
    rw [e0, Nat.one_mul]
  · show t.val / 37 % 7 * 512 + (y 1).val = _
    refine Eq.trans ?_ hb1.symm
    rw [e1, Nat.one_mul]

/-- The result array after the run. -/
theorem final_rows (c : Dev nD) : (dats m 0 c).arrAt 5 cfg0.N = resultRows m c :=
  (dats m 0 c).arrAt_eq_of_cover 5 _ (fun t hf => written_back m c t hf) (fun i => covered i)

end Cert.KernelIdeal.Hand

end
-- ==== Proof.Run.lean ====
/- The whole run of the kernel's program: it ends with the result of the problem in the result buffer, the 6144 rows taken
   as 6 batches of 1024, and with the arguments unchanged. -/
module

public import proofs.«01_k».proof.Proof.Final

@[expose] public section

noncomputable section

open Idealize.ShloMosaic Idealize.ShloMosaic.TcCoe Idealize.SL.Sem Idealize.ShloMosaic.ValueIdx

namespace Cert.KernelIdeal.Hand

open Cert.KernelIdeal Cert.KernelIdeal.Gen

variable (m : (ℓ : Loc nD τ sig) → Buf (Elt Ideal) ℓ)

/-- The result buffer holds the array of rows as batches. -/
theorem tail_result (c : Dev nD) :
    Pipeline.afterTail₀ cfgs (dats m) 0 (V0 m) [hostOps1] c main_v10 = shapeCast S6x1024x3584 (resultRows m c) shapeCasts_S6144x3584_S6x1024x3584 := by
  unfold Pipeline.afterTail₀
  rw [List.flatten_cons, List.flatten_nil, List.append_nil]
  after_results
  refine congrArg (fun a : Vec Ideal S6144x3584 .bf16 => shapeCast S6x1024x3584 a shapeCasts_S6144x3584_S6x1024x3584) ?_
  exact ((dats m 0 c).withArrays_arrAt sharedIn0 (V0 m c) (A_eq m c) 5).trans (final_rows m c)

/-- The run of the kernel's program. -/
theorem run (ρ : Dev nD → PrngReg) :
    θ_run defs (onTc (τ := τ) (main (F := Ideal))) ⟨m, fun _ => 0, ρ⟩ fun r => ∀ c : Dev nD,
      r.2.mem ((c.tc : Thread nD τ).loc main_v10) = shapeCast S6x1024x3584 (resultRows m c) shapeCasts_S6144x3584_S6x1024x3584
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.RefValue.lean ====
/- The reference program's result, at an index: the result of the problem. -/
module

public import proofs.«01_k».proof.Proof.Spec
public import proofs.«01_k».proof.Proof.Gen.ReferenceIdeal.Read

@[expose] public section

noncomputable section

open Idealize.ShloMosaic Idealize.ShloMosaic.TcCoe Idealize.SL.Sem Idealize.ShloMosaic.ValueIdx
open scoped BigOperators

namespace Cert.ReferenceIdeal.Hand

open Cert.ReferenceIdeal Cert.ReferenceIdeal.Gen Cert.ReferenceIdeal.Read

variable (x : Gated.X) (w : Gated.Codes) (s : Gated.Scales)

/-- A code widened to 32 bits first and then converted is the code converted. -/
theorem code_value (b : BitVec 8) : FloatOps.sitofp (F := Ideal) .bf16 (b.signExtend 32) = FloatOps.sitofp (F := Ideal) .f32 b := by
  show (((b.signExtend 32).toInt : ℝ) : EReal) = ((b.toInt : ℝ) : EReal)
  rw [BitVec.toInt_signExtend_of_le (by decide)]

/-- The reference's weights are the problem's. -/
theorem ref_weight (g : Fin 2) (k : Fin 18944) (n : Fin 3584) :
    val_main_v7 (F := Ideal) w s (ix3 g k n) = Gated.weight w s g k n := by
  rw [val_main_v7_apply, val_main_v6_apply, val_main_v2_apply, val_main_v1_apply, val_main_v0_apply, val_main_v5_apply,
    val_main_v4_apply, val_main_v3_apply]
  unfold Gated.weight
  refine congrArg₂ (fun a b : EReal => a * b) ((code_value _).trans (congrArg (fun j => FloatOps.sitofp (F := Ideal) .f32 (w j)) (funext fun a => Fin.ext ?_)))
    (congrArg s (funext fun a => Fin.ext ?_))
  · fin_cases a
    show ((g.val * 18944 + k.val) * 3584 + n.val) / 2048 * 2048 + ((g.val * 18944 + k.val) * 3584 + n.val) % 2048
      = g.val * 67895296 + k.val * 3584 + n.val
    omega
  · fin_cases a
    show ((g.val * 18944 + k.val) * 3584 + n.val) / 2048 = (g.val * 67895296 + k.val * 3584 + n.val) / 2048
    omega

/-- Row `(b, t)` of `x` in the count of all rows. -/
abbrev rowAt (b : Fin 6) (t : Fin 1024) : Fin 6144 := ⟨b.val * 1024 + t.val, by omega⟩

/-- The reference's two products are the projections. -/
theorem ref_proj (g : Fin 2) (b : Fin 6) (t : Fin 1024) (n : Fin 3584) :
    val_main_v9 (F := Ideal) x w s (ix4 g b t n) = Gated.proj x w s g (rowAt b t) n := by
  rw [val_main_v9_apply, val_main_v8_apply]
  unfold Gated.proj
  refine Finset.sum_congr rfl fun k _ => ?_
  rw [mul_comm]
  refine congrArg₂ (fun a b : EReal => a * b) (congrArg x (funext fun a => Fin.ext ?_)) ?_
  · fin_cases a
    · show b.val = (b.val * 1024 + t.val) / 1024
      omega
    · show t.val = (b.val * 1024 + t.val) % 1024
      omega
    · rfl
  · rw [← ref_weight]
    refine congrArg (val_main_v7 (F := Ideal) w s) (funext fun a => Fin.ext ?_)
    fin_cases a <;> rfl

/-- The first projection, sliced out and reshaped. -/
theorem ref_gate (b : Fin 6) (t : Fin 1024) (n : Fin 3584) :
    val_main_v11 (F := Ideal) x w s (ix3 b t n) = Gated.proj x w s 0 (rowAt b t) n := by
  rw [val_main_v11_apply, val_main_v10_apply, ← ref_proj]
  refine congrArg (val_main_v9 (F := Ideal) x w s) (funext fun a => Fin.ext ?_)
  fin_cases a
  · rfl
  · show ((b.val * 1024 + t.val) * 3584 + n.val) / 3670016 % 6 = b.val
    omega
  · show ((b.val * 1024 + t.val) * 3584 + n.val) / 3584 % 1024 = t.val
    omega
  · show ((b.val * 1024 + t.val) * 3584 + n.val) % 3584 = n.val
    omega

/-- The second projection, sliced out and reshaped. -/
theorem ref_up (b : Fin 6) (t : Fin 1024) (n : Fin 3584) :
    val_main_v14 (F := Ideal) x w s (ix3 b t n) = Gated.proj x w s 1 (rowAt b t) n := by
  rw [val_main_v14_apply, val_main_v13_apply, ← ref_proj]
  refine congrArg (val_main_v9 (F := Ideal) x w s) (funext fun a => Fin.ext ?_)
  fin_cases a
  · rfl
  · show ((b.val * 1024 + t.val) * 3584 + n.val) / 3670016 % 6 = b.val
    omega
  · show ((b.val * 1024 + t.val) * 3584 + n.val) / 3584 % 1024 = t.val
    omega
  · show ((b.val * 1024 + t.val) * 3584 + n.val) % 3584 = n.val
    omega

/-- One over one plus the exponential of the negation is the logistic. -/
theorem quotient_value (p : Ideal .f32) :
    FloatOps.hostDivf (F := Ideal) (FloatOps.ofBits .f32 0x3F800000#32)
      (FloatOps.addf (FloatOps.ofBits .f32 0x3F800000#32) (FloatOps.hostUnary .exp (FloatOps.hostNegf p))) = Ideal.logistic p := by
  have one : FloatOps.ofBits (F := Ideal) .f32 0x3F800000#32 = (1 : EReal) := Ideal.ofBits_one_f32
  rw [one]
  rfl

/-- The reference's quotient is the logistic of the first projection. -/
theorem ref_logistic (b : Fin 6) (t : Fin 1024) (n : Fin 3584) :
    val_main_call0_v5 (F := Ideal) x w s (ix3 b t n) = Ideal.logistic (Gated.proj x w s 0 (rowAt b t) n) := by
  rw [val_main_call0_v5_apply, val_main_call0_v4_apply, val_main_call0_cst_0_apply, val_main_call0_v3_apply, val_main_call0_v2_apply,
    val_main_call0_cst_apply, val_main_call0_v1_apply, val_main_call0_v0_apply, ref_gate]
  exact quotient_value _

/-- The reference's result at batch `b`, row `t`, column `n`. -/
theorem ref_value (b : Fin 6) (t : Fin 1024) (n : Fin 3584) :
    val_main_v16 (F := Ideal) x w s (ix3 b t n) = Gated.result x w s (rowAt b t) n := by
  rw [val_main_v16_apply, val_main_v15_apply, val_main_v12_apply, ref_gate, ref_up, ref_logistic]
  rfl

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import proofs.«01_k».proof.Proof.Run
public import proofs.«01_k».proof.Proof.RefValue
public import Idealize.ShloMosaic.Adequacy
public import Idealize.ShloMosaic.Init

@[expose] public section

noncomputable section

namespace Cert.Proof

open Idealize.ShloMosaic Idealize.ShloMosaic.ValueIdx Idealize.SL.Sem Cert.Kernel

/-- The kernel and the reference leave the same result: both are the result of the problem at every batch, row and column. -/
theorem values (m : (ℓ : Loc Cert.KernelIdeal.nD Cert.KernelIdeal.τ Cert.KernelIdeal.sig) → Buf (Elt Ideal) ℓ) (c : Dev Cert.KernelIdeal.nD) :
    Cert.ReferenceIdeal.Read.val_main_v16 (F := Ideal) (Cert.KernelIdeal.Hand.argX m c) (Cert.KernelIdeal.Hand.argW m c) (Cert.KernelIdeal.Hand.argS m c)
      = shapeCast Cert.KernelIdeal.S6x1024x3584 (Cert.KernelIdeal.Hand.resultRows m c) Cert.KernelIdeal.Gen.shapeCasts_S6144x3584_S6x1024x3584 := by
  funext i
  obtain ⟨b, t, n, rfl⟩ : ∃ (b : Fin 6) (t : Fin 1024) (n : Fin 3584), i = ix3 b t n :=
    ⟨i 0, i 1, i 2, funext fun a => by fin_cases a <;> rfl⟩
  rw [Cert.ReferenceIdeal.Hand.ref_value]
  have hr := shapeCast_apply (Cert.KernelIdeal.Hand.resultRows m c) Cert.KernelIdeal.Gen.shapeCasts_S6144x3584_S6x1024x3584 (ix3 b t n)
    (ix2 (Cert.ReferenceIdeal.Hand.rowAt b t) n) (by rw [Shape.rowMajor_val_two, Shape.rowMajor_val_three]; rfl)
  exact hr.symm

/-- All five claims: the three programs run, leave their arguments unchanged and their semaphores at zero; the idealized kernel is
    the kernel; and over the extended reals the kernel and the reference leave equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => (θ_run _ _ _).mono (fun r h => ⟨fun c => (h c).2, sem_eq_zero_of_no_sems rfl r.2⟩) (Cert.ReferenceIdeal.Value.run m ρ),
  trivial,
  fun m g m' g' _ hagree => ⟨fun c => shapeCast Cert.KernelIdeal.S6x1024x3584 (Cert.KernelIdeal.Hand.resultRows m c) Cert.KernelIdeal.Gen.shapeCasts_S6144x3584_S6x1024x3584,
    Cert.KernelIdeal.Hand.run m g,
    (θ_run _ _ _).mono (fun r h c => ⟨(h c).1.trans (by
      rw [(hagree c).1, (hagree c).2.1, (hagree c).2.2, Cert.ReferenceIdeal.Read.val_main_v16_eq]
      exact values m c), (h c).2⟩) (Cert.ReferenceIdeal.Value.run m' g')⟩⟩

end Cert.Proof

end
